-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_arg0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S16384x20 : Shape := ⟨2, ![16384, 20]⟩
abbrev S16384 : Shape := ⟨1, ![16384]⟩
abbrev S8x20 : Shape := ⟨2, ![8, 20]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S16384x20, .f32⟩
  | .hbm, ⟨1, _⟩ => ⟨S16384, .i32⟩
  | .hbm, ⟨2, _⟩ => ⟨S8x20, .f32⟩
  | .hbm, ⟨3, _⟩ => ⟨S16384x20, .f32⟩
  | _, _ => ⟨S16384x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 1 → Bool
  | ⟨0, _⟩ => true
  | _ => false

abbrev sig : RefSig :=
  ofTc nBuf bufTy 0 1 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩

abbrev nD : Nat := 1
abbrev τ : Topo := Topo.v7x

variable {F : FTy → Type} [FloatOps F]

abbrev grid0 : Pipeline.Grid := .none
-- ==== Reference.lean ====
abbrev S16384x20 : Shape := ⟨2, ![16384, 20]⟩
abbrev S16384 : Shape := ⟨1, ![16384]⟩
abbrev S8x20 : Shape := ⟨2, ![8, 20]⟩
abbrev S_ : Shape := ⟨0, ![]⟩
abbrev S16384x1 : Shape := ⟨2, ![16384, 1]⟩

abbrev nBuf : Space → Nat
  | .hbm => 16
  | .vmem => 0
  | .smem => 0
  | _ => 0

abbrev bufTy : (tb : Table) → Fin (tcTables nBuf tb) → BufTy
  | .hbm, ⟨0, _⟩ => ⟨S16384x20, .f32⟩
  | .hbm, ⟨1, _⟩ => ⟨S16384, .i32⟩
  | .hbm, ⟨2, _⟩ => ⟨S8x20, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S16384x1, .i1⟩
  | .hbm, ⟨7, _⟩ => ⟨S_, .f32⟩
  | .hbm, ⟨8, _⟩ => ⟨S_, .f32⟩
  | .hbm, ⟨9, _⟩ => ⟨S16384x20, .i1⟩
  | .hbm, ⟨10, _⟩ => ⟨S16384x20, .f32⟩
  | .hbm, ⟨11, _⟩ => ⟨S16384x20, .f32⟩
  | .hbm, ⟨12, _⟩ => ⟨S_, .i32⟩
  | .hbm, ⟨13, _⟩ => ⟨S_, .i32⟩
  | .hbm, ⟨14, _⟩ => ⟨S16384, .i32⟩
  | .hbm, ⟨15, _⟩ => ⟨S16384, .i32⟩
  | _, _ => ⟨S16384x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_call1_v1 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.Copy.lean ====
/-
  Hand-written, untrusted. The kernel is one asynchronous copy of the whole array `method_soft` into the whole result,
  HBM to HBM, started and waited on one DMA semaphore. The pallas_call stages no window: source and destination are
  operands left in place, so the launch hands the body the source at its launch contents (it is only read), the
  destination at its launch contents (it is written), and the semaphore at zero; it takes back the source unchanged,
  the destination holding the source's contents, and the semaphore at zero again.

  * `copy_runs`: the body's triple.
  * `run`: every weakly fair execution of @main ends with the result equal to `method_soft`, the three arguments
    unchanged and every semaphore counter at zero, at any float instance.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Tactic

@[expose] public section

noncomputable section

namespace Cert.Copy

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (Pipeline.UD sig nD τ) ℕ

/-- Buffer `b` of core `c`, held whole at contents `f`. -/
abbrev whole (c : Dev nD) (b : Ref sig .tc) (f : Buf (Elt F) ((c : Thread nD τ).loc b)) : sProp 𝕄 :=
  (Memref.whole b).view.loc (c : Thread nD τ) ↦{fullShare} f

/-- The kernel's one DMA semaphore. -/
abbrev sem0 : Fin 1 → SemLoc sig := fun _ => SemLoc.dma 0

/-- The operand the copy reads, and the result that it writes. -/
def src : Finset (Ref sig .tc) := {main_arg0}
def dst : Finset (Ref sig .tc) := {main_v0}

/-! ## The body -/

/-- The copy: from the source at `f`, the destination at `g` and the semaphore at zero, to the source at `f`, the
    destination at `f` and the semaphore at zero. -/
theorem copy_runs (c : Dev nD) (f : Buf (Elt F) ((c : Thread nD τ).loc main_arg0))
    (g : Buf (Elt F) ((c : Thread nD τ).loc main_v0)) (W : Waits sig Unit) (t : Fin cfg0.N) (K : PUnit → sProp 𝕄) :
    iprop(whole c main_arg0 f ∗ whole c main_v0 g ∗ semVal ((c : Thread nD τ), SemLoc.dma 0) 0 ∗ owes (c : Thread nD τ) 0 W
        ∗ (iprop(whole c main_arg0 f ∗ whole c main_v0 f ∗ semVal ((c : Thread nD τ), SemLoc.dma 0) 0
            ∗ (∃ W', owes (c : Thread nD τ) 0 W')) -∗ K ⟨⟩))
      ⊢ wp frame (wpE (defs₀ (F := F)) Variants.none c none) Set.univ (bodyAt0 t) K := by
  unfold bodyAt0
  simp only [cc0__dma_copy_body_eq_skeleton]; unfold cc0__dma_copy_body_skel
  iintro ⟨Hs, Hd, Hq, HW, Hk⟩
  sl_exec
  sl_step
  iapply Hk
  isplitl [Hs]; · iexact Hs
  isplitl [Hd]
  · rw [View.write_whole_univ]
    unfold copy_runs.sl.dma0
    iexact Hd
  isplitl [Hq]; · iexact Hq
  iexists _; iexact HW

/-! ## The proof data: what the body is given, and what it gives back -/

variable (m : (ℓ : Loc nD τ sig) → Buf (Elt F) ℓ) (ρ : Dev nD → PrngReg)

/-- Core `c`'s arrays when the region is entered: as launched, for @main is the region alone. -/
abbrev entry (c : Dev nD) (b : Ref sig .tc) : Buf (Elt F) ((c : Thread nD τ).loc b) := m ((c : Thread nD τ).loc b)

/-- The arrays when the region is left: the result holds what `method_soft` holds, the others what they held. -/
def left (c : Dev nD) : (b : Ref sig .tc) → Buf (Elt F) ((c : Thread nD τ).loc b) :=
  Function.update (entry m c) main_v0 (entry m c main_arg0)

theorem left_result (c : Dev nD) : left m c main_v0 = entry m c main_arg0 := Function.update_self ..

theorem main_entry : Pipeline.HMain (Ix := Unit) (Name := ℕ) (U := Pipeline.UD sig nD τ) (Lvl := ℕ) cfgs 0 defs₀
    Variants.none m (main (F := F)) (entry m) :=
  Pipeline.hmain_region cfgs 0 defs₀ Variants.none m main fun c => (main_chain c).trans rfl

theorem sem_facts : Pipeline.OwnSemFacts cfg0.spec sem0 := by decide
theorem src_sub : src ⊆ Pipeline.restRefs sig cfg0.spec := by decide
theorem dst_sub : dst ⊆ Pipeline.restRefs sig cfg0.spec \ src := by decide

/-- The invariant at destination contents `G`, part by part. -/
theorem inv_eq (G : (c : Dev nD) → (b : Ref sig .tc) → Buf (Elt F) ((c : Thread nD τ).loc b)) (c : Dev nD) :
    (Pipeline.ΦDRG sem0 cfg0.spec src dst (entry m) G c : sProp 𝕄)
      = iprop(BI.emp ∗ (∃ r, prngReg c r) ∗ semVal ((c : Thread nD τ), SemLoc.dma 0) 0
          ∗ whole c main_arg0 (entry m c main_arg0) ∗ whole c main_v0 (G c main_v0)) := by
  rw [Pipeline.ΦDRG_eq, scopedRest0_eq, Pipeline.ownSems0_eq_of_list c sem0 [0] (by decide) (by decide)]
  unfold Pipeline.routed src dst
  rw [BI.bigSep_singleton, BI.bigSep_singleton]
  rfl

/-- The proof data: no window; before the one point the destination as launched, after it the copy. -/
def data (_ : Fin 1) (c : Dev nD) : Dat τ (Elt F) Unit ℕ (Pipeline.UD sig nD τ) ℕ cfg0 c where
  A w := w.elim0
  after w := w.elim0
  Φ t := Pipeline.ΦDRG sem0 cfg0.spec src dst (entry m) (if t = 0 then entry m else left m) c
  q _ := fullShare
  owed _ := 0

theorem inv_before (c : Dev nD) (t : Fin cfg0.N) :
    (data m 0 c).Φ t.castSucc = Pipeline.ΦDRG sem0 cfg0.spec src dst (entry m) (entry m) c := by
  rw [fin_N0 t]; exact congrArg (fun G => Pipeline.ΦDRG sem0 cfg0.spec src dst (entry m) G c) (if_pos rfl)

theorem inv_after (c : Dev nD) (t : Fin cfg0.N) :
    (data m 0 c).Φ t.succ = Pipeline.ΦDRG sem0 cfg0.spec src dst (entry m) (left m) c :=
  congrArg (fun G => Pipeline.ΦDRG sem0 cfg0.spec src dst (entry m) G c) (if_neg (Fin.succ_ne_zero t))

/-- The body at its point: from the invariant before to the invariant after. -/
theorem body_runs (c : Dev nD) (t : Fin cfg0.N) :
    iprop((data m 0 c).Φ t.castSucc ∗ (data m 0 c).owesAt () t.castSucc ∗ BI.emp)
      ⊢ wp frame (wpE (defs₀ (F := F)) Variants.none c none) Set.univ (bodyAt0 t)
          (fun _ => iprop((data m 0 c).Φ t.succ ∗ (data m 0 c).owesAt () t.succ ∗ BI.emp)) := by
  rw [inv_before, inv_after, inv_eq, inv_eq, left_result]
  unfold Dat.owesAt Pipeline.owesWithin
  rw [show (data m 0 c).owed t.castSucc = 0 from rfl, show (data m 0 c).owed t.succ = 0 from rfl]
  iintro ⟨⟨-, Hg, Hq, Hs, Hd⟩, ⟨%W, -, HW⟩, -⟩
  iapply copy_runs c (entry m c main_arg0) (entry m c main_v0) W t
  isplitl [Hs]; · iexact Hs
  isplitl [Hd]; · iexact Hd
  isplitl [Hq]; · iexact Hq
  isplitl [HW]; · iexact HW
  iintro ⟨Hs, Hd, Hq, ⟨%W', HW⟩⟩
  isplitl [Hg Hq Hs Hd]
  · isplitr; · iempintro
    isplitl [Hg]; · iexact Hg
    isplitl [Hq]; · iexact Hq
    isplitl [Hs]; · iexact Hs
    iexact Hd
  isplitl [HW]
  · iexists W'; isplitr; · ipureintro; exact fun _ _ => Or.inl trivial
    iexact HW
  iempintro

theorem body_obligation (c : Dev nD) : Pipeline.BodyObligation (data m 0 c) (defs₀ (F := F)) Variants.none () Set.univ := fun t => by
  have : IsEmpty (Fin cfg0.W) := inferInstanceAs (IsEmpty (Fin 0))
  rw [Finset.univ_eq_empty, bigSep_empty, bigSep_empty]
  exact body_runs m c t

/-! ## The run -/

set_option backward.isDefEq.respectTransparency.types false in
/-- @main runs to the end, with the result equal to `method_soft`, the arguments unchanged and every counter at zero. -/
theorem run : θ_run (defs (F := F)) (onTc (τ := τ) (main (F := F))) ⟨m, fun _ => 0, ρ⟩ (fun r => (∀ c : Dev nD,
      r.2.mem ((c.tc : Thread nD τ).loc main_v0) = m ((c.tc : Thread nD τ).loc main_arg0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_dmaRG cfgs (data m) (0 : Fin 1) launch0 sem0 defs₀ Variants.none sem_facts src dst src_sub dst_sub
    m ρ main (hbody := fun c => (body_obligation m c).loose) (hshare := fun _ w => w.elim0) (howed := fun _ _ => rfl)
    (V := entry m) (hmain := main_entry m) (hA := fun _ w => w.elim0) (G := left m)
    (hin := fun c => Entails.of_eq (inv_before m c t0_0).symm) (hout := fun c => Entails.of_eq (inv_after m c t0_0))
    (Q' := _) (hQ' := fun r h => ⟨fun c =>
      have kept (b : Ref sig .tc) (hb : b ∈ Pipeline.restRefs sig cfg0.spec \ dst) :
          r.2.mem ((c.tc : Thread nD τ).loc b) = m ((c.tc : Thread nD τ).loc b) := (h.1.1 c).2 b hb
      ⟨(h.1.2 c main_v0 (by decide)).trans (left_result m c), kept main_arg0 (by decide), kept main_arg1 (by decide),
        kept main_arg2 (by decide)⟩, h.2⟩)

end Cert.Copy

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Copy
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The kernel as printed, at the machine's words: the idealized text is the same text. -/
theorem run_words (m : (ℓ : Loc nD τ sig) → Buf (Elt Bits) ℓ) (g : Dev nD → PrngReg) :
    θ_run (defs (F := Bits)) (onTc (τ := τ) (main (F := Bits))) ⟨m, fun _ => 0, g⟩ (fun r => (∀ c : Dev nD,
      r.2.mem ((c.tc : Thread nD τ).loc main_v0) = m ((c.tc : Thread nD τ).loc main_arg0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Cert.Copy.run (F := Bits) m g

theorem claim : Cert.Claim := by
  refine ⟨Cert.Kernel.Gen.facts, Cert.KernelIdeal.Gen.facts, Cert.ReferenceIdeal.Gen.facts, Cert.Reference.Gen.facts,
    ?_, ?_, ?_, ?_, ?_, ?_, ?_⟩
  · exact fun m g _ => (θ_run _ _ _).mono (fun _ h => ⟨fun c => (h.1 c).2, h.2⟩) (run_words m g)
  · exact fun m g _ => (θ_run _ _ _).mono (fun _ h => ⟨fun c => (h.1 c).2, h.2⟩) (Cert.Copy.run m g)
  · intro m g _
    hlo_run
    · exact fun _ => ⟨trivial, trivial, trivial⟩
    · exact sem_eq_zero_of_no_sems (by decide) _
  · intro m g _
    hlo_run
    · exact fun _ => ⟨trivial, trivial, trivial⟩
    · exact sem_eq_zero_of_no_sems (by decide) _
  · trivial
  · pair_intro
    run_from Cert.Copy.run m g
    hlo_run
  · pair_intro
    run_from run_words m g
    hlo_run

end Cert.Proof

end
